-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8x80x128x128 : Shape := ⟨4, ![8, 80, 128, 128]⟩
abbrev S2x80x128x128 : Shape := ⟨4, ![2, 80, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x80x128x128, .f32⟩
  | .hbm, ⟨1, _⟩ => ⟨S8x80x128x128, .f32⟩
  | .local _ .vmem, ⟨0, _⟩ => ⟨S2x80x128x128, .f32⟩
  | .local _ .vmem, ⟨1, _⟩ => ⟨S2x80x128x128, .f32⟩
  | .local _ .vmem, ⟨2, _⟩ => ⟨S2x80x128x128, .f32⟩
  | .local _ .vmem, ⟨3, _⟩ => ⟨S2x80x128x128, .f32⟩
  | _, _ => ⟨S8x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x80x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x80x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S8x80x128x128 : Shape := ⟨4, ![8, 80, 128, 128]⟩

abbrev nBuf : Space → Nat
  | .hbm => 1
  | .vmem => 0
  | .smem => 0
  | _ => 0

abbrev bufTy : (tb : Table) → Fin (tcTables nBuf tb) → BufTy
  | .hbm, ⟨0, _⟩ => ⟨S8x80x128x128, .f32⟩
  | _, _ => ⟨S8x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Blocks.lean ====
/-
  The arithmetic of the tiling, which names no program: eight batches, cut into four blocks of two.
-/
module

public import Idealize.ShloMosaic.Init

@[expose] public section

namespace Cert.Blocks

/-- Batch `b` of the eight lies in the two batches of block `b / 2`, and that is one of the four blocks. -/
theorem batch_in_half {b : Nat} (hb : b < 8) : b / 2 < 4 ∧ b / 2 * 2 ≤ b ∧ b < b / 2 * 2 + 2 := by omega

/-- The offset at which the body loads and stores is zero on every axis. -/
theorem origin : (![0, 0, 0, 0] : Fin 4 → Nat) = fun _ => 0 := by
  funext a; fin_cases a <;> rfl

end Cert.Blocks

end
-- ==== Proof.CopyIdeal.lean ====
/-
  What the idealized kernel computes: its result array ends as a copy of its argument.
  One grid point copies two batches; the four points' blocks fill the array.
-/
module

public import proofs.«01_k».proof.Proof.Gen.KernelIdeal.Value
public import proofs.«01_k».proof.Proof.Blocks

@[expose] public section

noncomputable section

namespace Cert.KernelIdeal.Copy

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Device `c`'s argument, as an array of the result's type. -/
abbrev pred (c : Dev nD) : Buf (Elt F) ((c : Thread nD τ).loc main_v0) := m ((c : Thread nD τ).loc main_arg0)

/-- One body's store leaves in the output block exactly the input block it loaded. -/
theorem body_copies (x : Vec F S2x80x128x128 .f32) : out0_1 x = x := by
  unfold out0_1
  rw [View.canon_unit_zero Blocks.origin, View.ld_unit_zero Blocks.origin]

/-- What point `t` writes back is block `t` of the argument: the input and the output window lie at the same place. -/
theorem writes_block (c : Dev nD) (t : Fin cfg0.N) :
    (dats m 0 c).flushed 1 t = ((cfg0.win 1).blk t).view.read (Elt F) (pred m c) := by
  rw [Value.flushed1, body_copies]
  rfl

/-- Point `t`'s output block starts at batch `2 t` and at the origin of the other three axes. -/
theorem block_at : ∀ t : Fin cfg0.N, win0_1.index t = ![t.val, 0, 0, 0] :=
  (by decide +kernel : ∀ t : Fin grid0.N, win0_1.index t = ![t.val, 0, 0, 0])

/-- An index lies in point `t`'s block when its batch is `2 t` or `2 t + 1`. -/
theorem in_block (t : Fin cfg0.N) (i : S8x80x128x128.Idx)
    (lo : t.val * 2 ≤ (i 0 : Nat)) (hi : (i 0 : Nat) < t.val * 2 + 2) : i ∈ ((cfg0.win 1).blk t).view.set := by
  show i ∈ ((View.whole main_v0).slice (win0_1.rect t)).set
  rw [View.set_slice_whole, Rect.mem_set_unit]
  intro a
  show win0_1.index t a * S2x80x128x128.size a ≤ (i a : Nat)
    ∧ (i a : Nat) < win0_1.index t a * S2x80x128x128.size a + S2x80x128x128.size a
  rw [block_at t]
  have rest (b : Fin 4) (n : Nat) (h : (i b : Nat) < n) : 0 * n ≤ (i b : Nat) ∧ (i b : Nat) < 0 * n + n := by omega
  match a with
  | ⟨0, _⟩ => exact ⟨lo, hi⟩
  | ⟨1, _⟩ => exact rest 1 80 (i 1).isLt
  | ⟨2, _⟩ => exact rest 2 128 (i 2).isLt
  | ⟨3, _⟩ => exact rest 3 128 (i 3).isLt

/-- Every index of the result is in the block of some point, and every point writes its block back. -/
theorem every_index_written (i : S8x80x128x128.Idx) :
    ∃ t : Fin cfg0.N, (cfg0.win 1).flush t = true ∧ i ∈ ((cfg0.win 1).blk t).view.set := by
  obtain ⟨h4, lo, hi⟩ := Blocks.batch_in_half (show (i 0 : Nat) < 8 from (i 0).isLt)
  exact ⟨⟨(i 0 : Nat) / 2, lt_of_lt_of_eq h4 N_0.symm⟩, flush0_1 _, in_block _ i lo hi⟩

/-- The result array after the last point is the argument. -/
theorem result_eq (c : Dev nD) : (dats m 0 c).arrAt 1 cfg0.N = pred m c :=
  (dats m 0 c).arrAt_eq_of_cover 1 (pred m c) (fun t _ => writes_block m c t) every_index_written

/-- The whole run: on every device the result array ends as the argument was launched, and the argument is unchanged. -/
theorem run : θ_run defs (onTc (τ := τ) (main (F := F))) ⟨m, fun _ => 0, ρ⟩ fun r => ∀ c : Dev nD,
      r.2.mem ((c : Thread nD τ).loc main_v0) = pred m c
      ∧ r.2.mem ((c : Thread nD τ).loc main_arg0) = m ((c : Thread nD τ).loc main_arg0) :=
  (θ_run defs _ _).mono (fun _ h c => ⟨(h c).1.trans (result_eq m c), (h c).2⟩) (Value.run_blocks m ρ)

end Cert.KernelIdeal.Copy

end
-- ==== Proof.lean ====
/-
  The proof of `Cert.Claim`: the frames of the kernel, of its idealization and of the two printings of the reference;
  `preserves` (nothing was rewritten); and the two value claims, that kernel and reference return the same array, over
  the extended reals and word by word. Copy.lean and CopyIdeal.lean say what the kernel leaves in its result; the
  reference returns its argument, so its run, of no operation, is read here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Copy
public import proofs.«01_k».proof.Proof.CopyIdeal
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The idealized reference has no operation and no semaphore: it ends with its argument unchanged and every counter at zero. -/
theorem frame_ref_ideal : Cert.quiescent_ReferenceIdeal := by
  intro m g _
  refine θ_run_mono (StableHlo.run_hlo _ _ (by hlo_seq) (by decide) (by decide) (by simp) (by simp) m g) fun r h => ?_
  exact ⟨fun c => h c _, sem_eq_zero_of_no_sems (by decide) r.2⟩

/-- The same of the reference over words. -/
theorem frame_ref : Cert.quiescent_Reference := by
  intro m g _
  refine θ_run_mono (StableHlo.run_hlo _ _ (by hlo_seq) (by decide) (by decide) (by simp) (by simp) m g) fun r h => ?_
  exact ⟨fun c => h c _, sem_eq_zero_of_no_sems (by decide) r.2⟩

/-- Over the extended reals the kernel's result is the reference's: both are the argument. -/
theorem algebraic : Cert.algebraic_KernelIdeal_ReferenceIdeal := by
  pair_intro
  · run_from Cert.KernelIdeal.Copy.run m g
  · hlo_run

/-- Word by word the kernel's result is the reference's: both are the argument. -/
theorem bitexact : Cert.bitexact_Kernel_Reference := by
  pair_intro
  · run_from Cert.Kernel.Copy.run m g
  · hlo_run

/-- All the claims of this certificate. -/
theorem claim : Cert.Claim :=
  ⟨Cert.Kernel.Gen.facts, Cert.KernelIdeal.Gen.facts, Cert.ReferenceIdeal.Gen.facts, Cert.Reference.Gen.facts,
    fun m g _ => Cert.Kernel.Gen.frame m g, fun m g _ => Cert.KernelIdeal.Gen.frame m g,
    frame_ref_ideal, frame_ref, trivial, algebraic, bitexact⟩

end Cert.Proof

end
